-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S1x2 : Shape := ⟨2, ![1, 2]⟩
abbrev S1920x512 : Shape := ⟨2, ![1920, 512]⟩
abbrev S1080x512 : Shape := ⟨2, ![1080, 512]⟩
abbrev S_ : Shape := ⟨0, ![]⟩

class Facts : Prop where
  bcast_S_S1x2 : S_.BroadcastsInDim S1x2 (![] : Fin 0 → Fin S1x2.rank)
  reducesTo_S1x2_S_d0_1 : S1x2.ReducesTo [0, 1] S_
  h_S_ : 0 < S_.numel

variable [Facts]

def fn {F : FTy → Type} [FloatOps F] (main_arg0 : IVec S1x2 32) (main_arg1 : FVec F S1920x512 .f32) (main_arg2 : FVec F S1080x512 .f32) : IVec S_ 1 :=
  let main_c : IVec S_ 32 := constantI S_ 32 0#32
  let main_v0 : IVec S1x2 32 := broadcastInDim S1x2 ![] bcast_S_S1x2 main_c
  let main_v1 : IVec S1x2 1 := cmpi .sge main_arg0 main_v0
  let main_c_0 : IVec S_ 32 := constantI S_ 32 1080#32
  let main_v2 : IVec S1x2 32 := broadcastInDim S1x2 ![] bcast_S_S1x2 main_c_0
  let main_v3 : IVec S1x2 1 := cmpi .slt main_arg0 main_v2
  let main_v4 : IVec S1x2 1 := andi main_v1 main_v3
  let main_c_1 : IVec S_ 1 := constantI S_ 1 1#1
  let main_v5 : IVec S_ 1 := (fun x v => Host.reduce IntOp.andi x v reducesTo_S1x2_S_d0_1 h_S_) main_v4 main_c_1
  main_v5
-- ==== Kernel.lean ====
abbrev S1x2 : Shape := ⟨2, ![1, 2]⟩
abbrev S1920x512 : Shape := ⟨2, ![1920, 512]⟩
abbrev S1080x512 : Shape := ⟨2, ![1080, 512]⟩
abbrev S2x1 : Shape := ⟨2, ![2, 1]⟩
abbrev S2x512 : Shape := ⟨2, ![2, 512]⟩
abbrev S_ : Shape := ⟨0, ![]⟩
abbrev S1x1 : Shape := ⟨2, ![1, 1]⟩
abbrev S1x512 : Shape := ⟨2, ![1, 512]⟩
abbrev S1x1024 : Shape := ⟨2, ![1, 1024]⟩

abbrev nBuf : Table → Nat
  | .hbm => 6
  | .local .scScalar .smem => 1
  | _ => 0

abbrev bufTy : (tb : Table) → Fin (nBuf tb) → BufTy
  | .hbm, ⟨0, _⟩ => ⟨S1x2, .i32⟩
  | .hbm, ⟨1, _⟩ => ⟨S1920x512, .f32⟩
  | .hbm, ⟨2, _⟩ => ⟨S1080x512, .f32⟩
  | .hbm, ⟨3, _⟩ => ⟨S2x1, .i32⟩
  | .hbm, ⟨4, _⟩ => ⟨S2x512, .f32⟩
  | .hbm, ⟨5, _⟩ => ⟨S1x1024, .f32⟩
  | .local .scScalar .smem, ⟨0, _⟩ => ⟨S2x1, .i32⟩
  | _, _ => ⟨S1x2, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scs : Ref sig .scScalar := ⟨.hbm, 3, rfl⟩
abbrev main_arg1_scs : Ref sig .scScalar := ⟨.hbm, 1, rfl⟩
abbrev main_arg2_scs : Ref sig .scScalar := ⟨.hbm, 2, rfl⟩
abbrev main_v1_scs : Ref sig .scScalar := ⟨.hbm, 4, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v5 : BitVec 32) : Fin 2 → Nat :=
  let c0_i32_6 : BitVec 32 := 0#32
  ![v5.toNat, 0]

def k0_off2 (v8 : BitVec 32) : Fin 2 → Nat :=
  let c0_i32_9 : BitVec 32 := 0#32
  ![v8.toNat, 0]

def k0_chk2 (i : grid0.Coords) (v8 : BitVec 32) : Prop :=
  (∀ (k0_h1 : k0_cond1 i = 1#1), ∀ a, (k0_off2 v8) a + S1x512.size a ≤ S1080x512.size a)
theorem k0_off2_inb : ∀ (i : grid0.Coords) (v8 : BitVec 32) (k0_hw2 : k0_chk2 i v8), ∀ (k0_h1 : k0_cond1 i = 1#1), ∀ a, (k0_off2 v8) a + S1x512.size a ≤ S1080x512.size a := fun i v8 k0_hw2 k0_h1 => k0_hw2 k0_h1

def k0_off3 (v5 : BitVec 32) : Fin 2 → Nat :=
  let c0_i32_12 : BitVec 32 := 0#32
  ![v5.toNat, 0]

def k0_chk1 (i : grid0.Coords) (v5 : BitVec 32) : Prop :=
  (∀ (k0_h1 : k0_cond1 i = 1#1), ∀ a, (k0_off1 v5) a + S1x512.size a ≤ S1920x512.size a) ∧
  (∀ (k0_h1 : k0_cond1 i = 1#1), ∀ a, (k0_off3 v5) a + S1x512.size a ≤ S1920x512.size a)
theorem k0_off1_inb : ∀ (i : grid0.Coords) (v5 : BitVec 32) (k0_hw1 : k0_chk1 i v5), ∀ (k0_h1 : k0_cond1 i = 1#1), ∀ a, (k0_off1 v5) a + S1x512.size a ≤ S1920x512.size a := fun i v5 k0_hw1 k0_h1 => k0_hw1.1 k0_h1
theorem k0_off3_inb : ∀ (i : grid0.Coords) (v5 : BitVec 32) (k0_hw1 : k0_chk1 i v5), ∀ (k0_h1 : k0_cond1 i = 1#1), ∀ a, (k0_off3 v5) a + S1x512.size a ≤ S1920x512.size a := fun i v5 k0_hw1 k0_h1 => k0_hw1.2 k0_h1

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S1x2 : Shape := ⟨2, ![1, 2]⟩
abbrev S1920x512 : Shape := ⟨2, ![1920, 512]⟩
abbrev S1080x512 : Shape := ⟨2, ![1080, 512]⟩
abbrev S1x1 : Shape := ⟨2, ![1, 1]⟩
abbrev S_ : Shape := ⟨0, ![]⟩
abbrev S1 : Shape := ⟨1, ![1]⟩
abbrev S512 : Shape := ⟨1, ![512]⟩
abbrev S1024 : Shape := ⟨1, ![1024]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S1x2, .i32⟩
  | .hbm, ⟨1, _⟩ => ⟨S1920x512, .f32⟩
  | .hbm, ⟨2, _⟩ => ⟨S1080x512, .f32⟩
  | .hbm, ⟨3, _⟩ => ⟨S1x1, .i32⟩
  | .hbm, ⟨4, _⟩ => ⟨S_, .i32⟩
  | .hbm, ⟨5, _⟩ => ⟨S1x1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S1, .i1⟩
  | .hbm, ⟨18, _⟩ => ⟨S1, .i1⟩
  | .hbm, ⟨19, _⟩ => ⟨S_, .i1⟩
  | .hbm, ⟨20, _⟩ => ⟨S_, .i1⟩
  | .hbm, ⟨21, _⟩ => ⟨S512, .f32⟩
  | .hbm, ⟨22, _⟩ => ⟨S512, .i1⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S1, .i1⟩
  | .hbm, ⟨36, _⟩ => ⟨S1, .i1⟩
  | .hbm, ⟨37, _⟩ => ⟨S1, .i1⟩
  | .hbm, ⟨38, _⟩ => ⟨S_, .i1⟩
  | .hbm, ⟨39, _⟩ => ⟨S_, .i1⟩
  | .hbm, ⟨40, _⟩ => ⟨S512, .f32⟩
  | .hbm, ⟨41, _⟩ => ⟨S512, .i1⟩
  | .hbm, ⟨42, _⟩ => ⟨S_, .f32⟩
  | .hbm, ⟨43, _⟩ => ⟨S512, .f32⟩
  | .hbm, ⟨44, _⟩ => ⟨S512, .f32⟩
  | .hbm, ⟨45, _⟩ => ⟨S1024, .f32⟩
  | .hbm, ⟨46, _⟩ => ⟨S1x1024, .f32⟩
  | _, _ => ⟨S1x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_c_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_c_1 : Ref sig .tc := ⟨.hbm, 13, rfl⟩
abbrev main_call0_c_2 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_c_3 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_cst : Ref sig .tc := ⟨.hbm, 23, rfl⟩
abbrev main_call0_v11 : Ref sig .tc := ⟨.hbm, 24, rfl⟩
abbrev main_v4 : Ref sig .tc := ⟨.hbm, 25, rfl⟩
abbrev main_call1_c : Ref sig .tc := ⟨.hbm, 26, rfl⟩
abbrev main_call1_v0 : Ref sig .tc := ⟨.hbm, 27, rfl⟩
abbrev main_call1_c_0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_c_1 : Ref sig .tc := ⟨.hbm, 32, rfl⟩
abbrev main_call1_c_2 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_c_3 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_cst : Ref sig .tc := ⟨.hbm, 42, rfl⟩
abbrev main_call1_v11 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩

abbrev nD : Nat := 1
abbrev τ : Topo := Topo.v7x

variable {F : FTy → Type} [FloatOps F]
-- ==== Proof.Lookup.lean ====
/-
  The position lookup as mathematics: which words the kernel is handed and what it makes of the two tables. Nothing here
  knows of transfers, semaphores or threads; the run (Proof/Run.lean) and the reference's equation (Proof/Reference.lean)
  meet at these definitions.
-/
module

public import proofs.«01_k».proof.Proof.Gen.KernelIdeal
public import Idealize.ShloMosaic.Lib.Pipeline.Value
public import Idealize.ShloMosaic.Lib.ValueIdx

@[expose] public section

noncomputable section

namespace Cert.Proof.Lookup

open Cert.KernelIdeal Cert.KernelIdeal.Gen
open Idealize.ShloMosaic Idealize.ShloMosaic.ValueIdx

variable {α : Type}

/-- The coordinate pair's two words, first the table `pe_x`'s row, then the table `pe_y`'s. -/
def wordX (xy : IVec S1x2 32) : BitVec 32 := xy (ix2 0 0)
def wordY (xy : IVec S1x2 32) : BitVec 32 := xy (ix2 0 1)

/-- Both coordinates name a row of their table. -/
def RowsOK (xy : IVec S1x2 32) : Prop := (wordX xy).toNat < 1920 ∧ (wordY xy).toNat < 1080

/-- The row a word names in a table of `n` rows (the last one, for a word that names none). -/
def rowOf (n : Nat) (hn : 0 < n) (w : BitVec 32) : Fin n := ⟨min w.toNat (n - 1), by omega⟩

theorem rowOf_val {n : Nat} (hn : 0 < n) {w : BitVec 32} (h : w.toNat < n) : (rowOf n hn w).val = w.toNat := by
  show min w.toNat (n - 1) = w.toNat
  omega

/-- The pair of rows: row 0 is `pe_x`'s row at the first word, row 1 `pe_y`'s at the second. -/
def rows (xy : IVec S1x2 32) (px : S1920x512.Idx → α) (py : S1080x512.Idx → α) : S2x512.Idx → α := fun i =>
  if (i 0).val = 0 then px (ix2 (rowOf 1920 (by decide) (wordX xy)) (i 1)) else py (ix2 (rowOf 1080 (by decide) (wordY xy)) (i 1))

/-- The program's result: the pair of rows laid end to end. -/
def result (xy : IVec S1x2 32) (px : S1920x512.Idx → α) (py : S1080x512.Idx → α) : S1x1024.Idx → α :=
  shapeCast S1x1024 (rows xy px py) shapeCasts_S2x512_S1x1024

/-- The pair as the kernel is handed it: one word per row. -/
def column (xy : IVec S1x2 32) : IVec S2x1 32 := shapeCast S2x1 xy shapeCasts_S1x2_S2x1

theorem column_zero (xy : IVec S1x2 32) : column xy (ix2 0 0) = wordX xy :=
  shapeCast_apply xy _ _ _ (by rw [Shape.rowMajor_val_two, Shape.rowMajor_val_two]; rfl)
theorem column_one (xy : IVec S1x2 32) : column xy (ix2 1 0) = wordY xy :=
  shapeCast_apply xy _ _ _ (by rw [Shape.rowMajor_val_two, Shape.rowMajor_val_two]; rfl)

end Cert.Proof.Lookup

end
-- ==== Proof.Body.lean ====
/-
  The lookup kernel on the sequencer of SparseCore 0: the coordinate pair copied into scalar memory, its two words read, and
  the two table rows they name copied at once into the two rows of the result, each copy on a cell of its own.

  Both rows of the result are written while both copies are in flight, so the result is held as its two rows, each by
  its own elements (`row0`, `row1`), which together are all of it. The tables are read whole, one copy each. The two
  words are the pair's (`Lookup.column_zero`, `column_one`), so that each side condition the body assumes is what
  `Lookup.RowsOK` says.
-/
module

public import proofs.«01_k».proof.Proof.Lookup
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Ring

@[expose] public section

noncomputable section

namespace Cert.Proof.Run

open Cert.KernelIdeal Cert.KernelIdeal.Gen
open Cert.Proof

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds beside the copies' counters -/

abbrev UH : Type := URounds (GSem nD τ sig) ℕ
abbrev UU : Type := UH × Counters

local notation "𝕄" => MT nD τ sig (HIx 1) (Elt F) ℕ UU ℕ

abbrev 𝒱₀ : Variants := Variants.none

/-! ## The kernel's arrays, as the body table passes them -/

local notation "cW" => (Memref.whole Cert.KernelIdeal.main_v0_scs : Memref Cert.KernelIdeal.sig Kind.scScalar Space.hbm Cert.KernelIdeal.S2x1 EltTy.i32)
local notation "pxW" => (Memref.whole Cert.KernelIdeal.main_arg1_scs : Memref Cert.KernelIdeal.sig Kind.scScalar Space.hbm Cert.KernelIdeal.S1920x512 EltTy.f32)
local notation "pyW" => (Memref.whole Cert.KernelIdeal.main_arg2_scs : Memref Cert.KernelIdeal.sig Kind.scScalar Space.hbm Cert.KernelIdeal.S1080x512 EltTy.f32)
local notation "oW" => (Memref.whole Cert.KernelIdeal.main_v1_scs : Memref Cert.KernelIdeal.sig Kind.scScalar Space.hbm Cert.KernelIdeal.S2x512 EltTy.f32)
local notation "wW" => (Memref.whole Cert.KernelIdeal.cc0_scratch0 : Memref Cert.KernelIdeal.sig Kind.scScalar Space.smem Cert.KernelIdeal.S2x1 EltTy.i32)
-- the result's two rows, as the body slices them
local notation "row0" => (Memref.slice oW (Rect.unit (s := S2x512) ![0, 0] S1x512.size inb_S2x512_S1x512_0_0) (fun _ => rfl))
local notation "row1" => (Memref.slice oW (Rect.unit (s := S2x512) ![1, 0] S1x512.size inb_S2x512_S1x512_1_0) (fun _ => rfl))

def coords (c : Fin (grid0.bound 0)) : grid0.Coords := fun | 0 => c | ⟨_ + 1, h⟩ => absurd h (Nat.not_lt.2 (Nat.le_add_left _ _))

/-- SparseCore 0's sequencer. -/
abbrev S0 (d : Dev nD) (h : 0 < grid0.bound 0) : Thread nD τ := S d ((⟨0, h⟩ : Fin (grid0.bound 0)).castLE hcore0)

/-! ## The result's two rows are all of it -/

abbrev rowSet (j : Fin 2) : Finset S2x512.Idx :=
  (Rect.unit (s := S2x512) ![j.val, 0] S1x512.size (by have := j.isLt; intro a; fin_cases a <;> simp <;> omega)).set

theorem row0_set : (row0).view.set = rowSet 0 := View.set_slice_whole _ _
theorem row1_set : (row1).view.set = rowSet 1 := View.set_slice_whole _ _

/-- An element lies in row `j` exactly when its first coordinate is `j`. -/
theorem mem_rowSet (j : Fin 2) (i : S2x512.Idx) : i ∈ rowSet j ↔ (i 0).val = j.val := by
  rw [Rect.mem_set_unit]
  constructor
  · intro h
    have h0 := h 0
    simp at h0
    omega
  · intro h a
    match a with
    | ⟨0, _⟩ => simp; omega
    | ⟨1, _⟩ => have := idx2_lt1 i; simp; omega

theorem rows_disjoint : Disjoint (rowSet 0) (rowSet 1) := by
  rw [Finset.disjoint_left]
  intro i h0 h1
  rw [mem_rowSet] at h0 h1
  rw [h0] at h1
  exact absurd h1 (by decide)
theorem rows_cover : rowSet 0 ∪ rowSet 1 = Finset.univ := by
  ext i
  simp only [Finset.mem_union, Finset.mem_univ, iff_true, mem_rowSet]
  have := idx2_lt0 i
  show (i 0).val = 0 ∨ (i 0).val = 1
  omega

/-- The rectangle of one row at a word that names a row of a table of `n` lies inside the table. -/
theorem row_inb {n : Nat} {w : BitVec 32} (hw : w.toNat < n) :
    ∀ a : Fin 2, (![w.toNat, 0] : Fin 2 → Nat) a + S1x512.size a ≤ (⟨2, ![n, 512]⟩ : Shape).size a := by
  intro a
  match a with
  | ⟨0, _⟩ => exact hw
  | ⟨1, _⟩ => exact le_refl 512

theorem chk1 (i : grid0.Coords) {xy : IVec S1x2 32} (h : Lookup.RowsOK xy) : k0_chk1 i (Lookup.wordX xy) :=
  ⟨fun _ => row_inb h.1, fun _ => row_inb h.1⟩
theorem chk2 (i : grid0.Coords) {xy : IVec S1x2 32} (h : Lookup.RowsOK xy) : k0_chk2 i (Lookup.wordY xy) :=
  fun _ => row_inb h.2

variable [FloatOps F]

/-! ## What the two copies leave -/

/-- A copy that fills row 0 leaves each of its elements at what was carried for the element's column. -/
theorem row0_writes (f : (row0).view.ty.Contents (Elt F)) (w : S1x512.Idx → Elt F .f32) (i : S2x512.Idx) (hi : i ∈ (row0).view.set) :
    (row0).view.writes (Elt F) f [⟨Rect.whole S1x512, w⟩] i = w (ix2 0 (i 1)) := by
  obtain ⟨x, -, rfl⟩ := Finset.mem_map.mp hi
  refine (congrFun (View.write_univ_eq_writes_whole (row0).view f [] w) _).symm.trans ?_
  refine (View.write_emb_of_mem _ w (Finset.mem_univ x)).trans (congrArg w ?_)
  funext a
  apply Fin.ext
  match a with
  | ⟨0, _⟩ => exact Nat.lt_one_iff.mp (x 0).isLt
  | ⟨1, _⟩ =>
    show (x 1).val = 0 + 1 * (x 1).val
    omega
/-- And so for row 1. -/
theorem row1_writes (f : (row1).view.ty.Contents (Elt F)) (w : S1x512.Idx → Elt F .f32) (i : S2x512.Idx) (hi : i ∈ (row1).view.set) :
    (row1).view.writes (Elt F) f [⟨Rect.whole S1x512, w⟩] i = w (ix2 0 (i 1)) := by
  obtain ⟨x, -, rfl⟩ := Finset.mem_map.mp hi
  refine (congrFun (View.write_univ_eq_writes_whole (row1).view f [] w) _).symm.trans ?_
  refine (View.write_emb_of_mem _ w (Finset.mem_univ x)).trans (congrArg w ?_)
  funext a
  apply Fin.ext
  match a with
  | ⟨0, _⟩ => exact Nat.lt_one_iff.mp (x 0).isLt
  | ⟨1, _⟩ =>
    show (x 1).val = 0 + 1 * (x 1).val
    omega

/-- Where column `k` of the row at the word `w` is read from in a table of `n` rows. -/
theorem row_src {n : Nat} {w : BitVec 32} (hw : w.toNat < n) (hn : 0 < n)
    (inb : ∀ a : Fin 2, (![w.toNat, 0] : Fin 2 → Nat) a + S1x512.size a ≤ (⟨2, ![n, 512]⟩ : Shape).size a) (k : Fin 512) :
    (Rect.unit (s := ⟨2, ![n, 512]⟩) ![w.toNat, 0] S1x512.size inb).emb (ix2 (0 : Fin 1) k) = ix2 (Lookup.rowOf n hn w) k := by
  funext a
  apply Fin.ext
  match a with
  | ⟨0, _⟩ =>
    show w.toNat + 1 * 0 = (Lookup.rowOf n hn w).val
    rw [Lookup.rowOf_val hn hw]
    omega
  | ⟨1, _⟩ =>
    show 0 + 1 * k.val = k.val
    omega

theorem body_run (d : Dev nD) (h : 0 < grid0.bound 0) (O : CellTallies nD τ sig (HIx 1)) (W : Waits sig (HIx 1))
    (xy : IVec S1x2 32) (hxy : Lookup.RowsOK xy)
    (px : Buf (Elt F) ((pxW).view.loc (S0 d h))) (py : Buf (Elt F) ((pyW).view.loc (S0 d h)))
    (fo : Buf (Elt F) ((oW).view.loc (S0 d h))) (fw : Buf (Elt F) ((wW).view.loc (S0 d h))) :
    (iprop(Transfers.MayWaits (S0 d h) (none : HIx 1) O
        ∗ ((cW).view.loc (S0 d h) ↦{fullShare} (Lookup.column xy : Buf (Elt F) ((cW).view.loc (S0 d h))))
        ∗ ((pxW).view.loc (S0 d h) ↦{fullShare} px)
        ∗ ((pyW).view.loc (S0 d h) ↦{fullShare} py)
        ∗ ((row0).view.loc (S0 d h) ↦[(row0).view.set]{fullShare} fo)
        ∗ ((row1).view.loc (S0 d h) ↦[(row1).view.set]{fullShare} fo)
        ∗ ((wW).view.loc (S0 d h) ↦{fullShare} fw)
        ∗ semVal (S0 d h, SemLoc.dma cc0_scratch1.sem) 0
        ∗ semVal (S0 d h, SemLoc.dma cc0_scratch2.sem) 0
        ∗ semVal (S0 d h, SemLoc.dma cc0_scoped0.sem) 0
        ∗ owes (S0 d h) O W) : sProp 𝕄)
      ⊢ wp frame (wpE (defs₀ (F := F)) 𝒱₀ (S0 d h) none) Set.univ
          (cc0__pe_lookup (coords ⟨0, h⟩) cW (Memref.isWhole_whole _) pxW (Memref.isWhole_whole _) pyW (Memref.isWhole_whole _)
            oW (Memref.isWhole_whole _) wW (Memref.isWhole_whole _) cc0_scratch1 cc0_scratch2 cc0_scoped0)
          fun _ => iprop(((cW).view.loc (S0 d h) ↦{fullShare} (Lookup.column xy : Buf (Elt F) ((cW).view.loc (S0 d h))))
            ∗ ((pxW).view.loc (S0 d h) ↦{fullShare} px)
            ∗ ((pyW).view.loc (S0 d h) ↦{fullShare} py)
            ∗ ((row0).view.loc (S0 d h) ↦[(row0).view.set]{fullShare} (Lookup.rows xy px py : Buf (Elt F) ((oW).view.loc (S0 d h))))
            ∗ ((row1).view.loc (S0 d h) ↦[(row1).view.set]{fullShare} (Lookup.rows xy px py : Buf (Elt F) ((oW).view.loc (S0 d h))))
            ∗ (∃ f, (wW).view.loc (S0 d h) ↦{fullShare} f)
            ∗ semVal (S0 d h, SemLoc.dma cc0_scratch1.sem) 0
            ∗ semVal (S0 d h, SemLoc.dma cc0_scratch2.sem) 0
            ∗ semVal (S0 d h, SemLoc.dma cc0_scoped0.sem) 0
            ∗ ∃ W', owes (S0 d h) O W') := by
  have hcond : k0_cond1 (coords ⟨0, h⟩) = 1#1 := rfl
  have hchk1 := chk1 (coords ⟨0, h⟩) hxy
  have hchk2 := chk2 (coords ⟨0, h⟩) hxy
  iintro ⟨#Hmw, Hc, Hpx, Hpy, Hr0, Hr1, Hw, Hs1, Hs2, Hs0, HO⟩
  sl_unfold [cc0__pe_lookup]
  sl_exec
  have hv5 : body_run.sl.r d h xy fw = Lookup.wordX xy := by
    unfold body_run.sl.r body_run.sl.f body_run.sl.dma0
    erw [View.write_whole_univ]
    refine (congrArg (Lookup.column xy) ?_).trans (Lookup.column_zero xy)
    funext a
    match a with
    | ⟨0, _⟩ => rfl
    | ⟨1, _⟩ => rfl
  irw [hv5]
  sl_exec
  have hv8 : body_run.sl.r_1 d h xy fw = Lookup.wordY xy := by
    unfold body_run.sl.r_1 body_run.sl.f_1 body_run.sl.dma0
    erw [View.write_whole_univ]
    refine (congrArg (Lookup.column xy) ?_).trans (Lookup.column_one xy)
    funext a
    match a with
    | ⟨0, _⟩ => rfl
    | ⟨1, _⟩ => rfl
  irw [hv8]
  sl_exec
  have e0 : ∀ i ∈ (row0).view.set, (row0).view.writes (Elt F) fo
      [⟨Rect.whole (Rect.unit (s := S2x512) ![0, 0] S1x512.size inb_S2x512_S1x512_0_0).shape, body_run.sl.dma0_1 d h xy px hcond hchk1⟩] i
        = Lookup.rows xy px py i := fun i hi => by
    have hi' := (mem_rowSet 0 i).mp (row0_set ▸ hi)
    refine (row0_writes fo _ i hi).trans (Eq.trans ?_ (if_pos hi').symm)
    unfold body_run.sl.dma0_1
    exact congrArg px (row_src hxy.1 _ _ (i 1))
  have e1 : ∀ i ∈ (row1).view.set, (row1).view.writes (Elt F) fo
      [⟨Rect.whole (Rect.unit (s := S2x512) ![1, 0] S1x512.size inb_S2x512_S1x512_1_0).shape, body_run.sl.dma0_2 d h xy py hcond hchk2⟩] i
        = Lookup.rows xy px py i := fun i hi => by
    have hi' := (mem_rowSet 1 i).mp (row1_set ▸ hi)
    refine (row1_writes fo _ i hi).trans (Eq.trans ?_ (if_neg (by rw [hi']; decide)).symm)
    unfold body_run.sl.dma0_2
    exact congrArg py (row_src hxy.2 _ _ (i 1))
  have p0 := pointsTo_congr (ℓ := (row0).view.loc (S0 d h)) (q := fullShare) (Ix := HIx 1) (Name := ℕ) (U := UU) (Lvl := ℕ) e0
  have p1 := pointsTo_congr (ℓ := (row1).view.loc (S0 d h)) (q := fullShare) (Ix := HIx 1) (Name := ℕ) (U := UU) (Lvl := ℕ) e1
  sl_step
  isplitl [Hc]
  · iexact Hc
  isplitl [Hpx]
  · iexact Hpx
  isplitl [Hpy]
  · iexact Hpy
  isplitl [Hr0]
  · iapply (Entails.of_eq p0)
    iexact Hr0
  isplitl [Hr1]
  · iapply (Entails.of_eq p1)
    iexact Hr1
  isplitl [Hw]
  · iexists _; iexact Hw
  isplitl [Hs1]
  · iexact Hs1
  isplitl [Hs2]
  · iexact Hs2
  isplitl [Hs0]
  · iexact Hs0
  iexists _
  iexact HO

end Cert.Proof.Run

end
-- ==== Proof.Run.lean ====
/-
  The whole program run: the TensorCore's first reshape, the call of the SparseCore kernel, the last reshape.

  Each array is held whole throughout. The call takes the pair as a column, the two tables and the buffer of the rows to
  SparseCore 0's sequencer, and hands them back with the buffer at `Lookup.rows`. The run is written once, for any
  float operations; it needs the two words to name rows of the tables (`Lookup.RowsOK`), on each device.
-/
module

public import proofs.«01_k».proof.Proof.Body

@[expose] public section

noncomputable section

namespace Cert.Proof.Run

open Cert.KernelIdeal Cert.KernelIdeal.Gen
open Cert.Proof

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

/-! ## The launch memory, and what each array holds -/

variable (m : (ℓ : Loc nD τ sig) → Buf (Elt F) ℓ) (ρ : Dev nD → PrngReg)

local notation "cW" => (Memref.whole Cert.KernelIdeal.main_v0_scs : Memref Cert.KernelIdeal.sig Kind.scScalar Space.hbm Cert.KernelIdeal.S2x1 EltTy.i32)
local notation "pxW" => (Memref.whole Cert.KernelIdeal.main_arg1_scs : Memref Cert.KernelIdeal.sig Kind.scScalar Space.hbm Cert.KernelIdeal.S1920x512 EltTy.f32)
local notation "pyW" => (Memref.whole Cert.KernelIdeal.main_arg2_scs : Memref Cert.KernelIdeal.sig Kind.scScalar Space.hbm Cert.KernelIdeal.S1080x512 EltTy.f32)
local notation "oW" => (Memref.whole Cert.KernelIdeal.main_v1_scs : Memref Cert.KernelIdeal.sig Kind.scScalar Space.hbm Cert.KernelIdeal.S2x512 EltTy.f32)
local notation "wW" => (Memref.whole Cert.KernelIdeal.cc0_scratch0 : Memref Cert.KernelIdeal.sig Kind.scScalar Space.smem Cert.KernelIdeal.S2x1 EltTy.i32)
local notation "row0" => (Memref.slice oW (Rect.unit (s := S2x512) ![0, 0] S1x512.size inb_S2x512_S1x512_0_0) (fun _ => rfl))
local notation "row1" => (Memref.slice oW (Rect.unit (s := S2x512) ![1, 0] S1x512.size inb_S2x512_S1x512_1_0) (fun _ => rfl))

abbrev xyLoc (d : Dev nD) : Loc nD τ sig := (SparseCore.T d).loc main_arg0
abbrev pxLoc (d : Dev nD) : Loc nD τ sig := (SparseCore.T d).loc main_arg1
abbrev pyLoc (d : Dev nD) : Loc nD τ sig := (SparseCore.T d).loc main_arg2
abbrev colLoc (d : Dev nD) : Loc nD τ sig := (SparseCore.T d).loc main_v0
abbrev rowsLoc (d : Dev nD) : Loc nD τ sig := (SparseCore.T d).loc main_v1
abbrev outLoc (d : Dev nD) : Loc nD τ sig := (SparseCore.T d).loc main_v2
/-- The sequencer's scalar memory, which the pair is copied into. -/
abbrev wordsLoc (d : Dev nD) (c : Fin τ.nSC) : Loc nD τ sig := (S d c).loc cc0_scratch0

/-- The pair as a column, -/
def colV (d : Dev nD) : Buf (Elt F) (colLoc d) := Lookup.column (m (xyLoc d))
/-- the two rows it names, -/
def rowsV (d : Dev nD) : Buf (Elt F) (rowsLoc d) := Lookup.rows (m (xyLoc d)) (m (pxLoc d)) (m (pyLoc d))
/-- and the rows end to end. -/
def outV (d : Dev nD) : Buf (Elt F) (outLoc d) := Lookup.result (m (xyLoc d)) (m (pxLoc d)) (m (pyLoc d))

variable [FloatOps F]

/-- What the call takes, the buffer of the rows at `f`. -/
abbrev callPts (d : Dev nD) (f : Buf (Elt F) (rowsLoc d)) : sProp 𝕄 :=
  iprop((colLoc d ↦{fullShare} colV m d) ∗ (pxLoc d ↦{fullShare} m (pxLoc d)) ∗ (pyLoc d ↦{fullShare} m (pyLoc d)) ∗ (rowsLoc d ↦{fullShare} f))

/-- The call's payloads: to SparseCore 0's sequencer with the buffer of the rows at anything, and back with it at the rows. -/
def P : (K (F := F)).Pay (nD := nD) (Val := Elt F) (Name := ℕ) (U := UU) where
  st := fun _ d _ => iprop(∃ f, callPts m d f)
  dn := fun _ d _ => callPts m d (rowsV m d)
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's own memory and cells -/

section Sequencer

variable (d : Dev nD)

/-- The three cells the body's copies signal. -/
abbrev copyCell (c : Fin τ.nSC) (k : Fin 3) : GSem nD τ sig := (S d c, .dma (k : DmaSem sig))

omit [FloatOps F] in
theorem copyCell_mem (c : Fin τ.nSC) (k : Fin 3) : copyCell d c k ∈ ownCells (S d c) :=
  mem_ownCells.mpr ⟨rfl, (show ∀ s : DmaSem sig, (SemLoc.dma s : SemLoc sig).isScoped .scScalar = true by decide) _⟩

omit [FloatOps F] in
theorem ownSems0_three (c : Fin τ.nSC) :
    (ownSems0 (S d c) : sProp 𝕄)
      = iprop((semVal (copyCell d c 0) 0 ∗ semVal (copyCell d c 1) 0 ∗ semVal (copyCell d c 2) 0)
          ∗ bigSep ((ownCells (S d c)) \ Finset.univ.image (copyCell d c)) fun g => semVal g 0) := by
  unfold SparseCore.Cfg.ownSems0
  rw [SparseCore.bigSep_sdiff_split' (t := Finset.univ.image (copyCell d c)) (Finset.image_subset_iff.mpr fun k _ => copyCell_mem d c k),
    SparseCore.bigSep_image_of_injOn (fun a _ b _ h => by
      have := congrArg (fun g : GSem nD τ sig => g.2) h
      simpa only [SemLoc.dma.injEq] using this)]
  rw [show (Finset.univ : Finset (Fin 3)) = {0, 1, 2} by decide,
    SparseCore.bigSep_insert' (by decide), SparseCore.bigSep_insert' (by decide), bigSep_singleton]

omit [FloatOps F] in
theorem ownBufs_words (c : Fin τ.nSC) :
    (ownBufs (S d c) : sProp 𝕄)
      = iprop((∃ f, wordsLoc d c ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

/-! The sequencer addresses the same arrays as the TensorCore. -/

omit [FloatOps F] in
theorem pts_col (c : Fin τ.nSC) (f : Buf (Elt F) (colLoc d)) :
    ((cW).view.loc (S d c) ↦{fullShare} f : sProp 𝕄) = colLoc d ↦{fullShare} f := by simp only [Memref.view_whole, View.set_whole]
omit [FloatOps F] in
theorem pts_px (c : Fin τ.nSC) (f : Buf (Elt F) (pxLoc d)) :
    ((pxW).view.loc (S d c) ↦{fullShare} f : sProp 𝕄) = pxLoc d ↦{fullShare} f := by simp only [Memref.view_whole, View.set_whole]
omit [FloatOps F] in
theorem pts_py (c : Fin τ.nSC) (f : Buf (Elt F) (pyLoc d)) :
    ((pyW).view.loc (S d c) ↦{fullShare} f : sProp 𝕄) = pyLoc d ↦{fullShare} f := by simp only [Memref.view_whole, View.set_whole]
omit [FloatOps F] in
theorem pts_words (c : Fin τ.nSC) (f : Buf (Elt F) (wordsLoc d c)) :
    ((wW).view.loc (S d c) ↦{fullShare} f : sProp 𝕄) = wordsLoc d c ↦{fullShare} f := by simp only [Memref.view_whole, View.set_whole]

omit [FloatOps F] in
/-- The buffer of the rows is its two rows. -/
theorem pts_rows (h : 0 < grid0.bound 0) (f : Buf (Elt F) (rowsLoc d)) :
    (rowsLoc d ↦{fullShare} f : sProp 𝕄)
      ⊣⊢ iprop(((row0).view.loc (S0 d h) ↦[(row0).view.set]{fullShare} (f : Buf (Elt F) ((oW).view.loc (S0 d h))))
          ∗ ((row1).view.loc (S0 d h) ↦[(row1).view.set]{fullShare} (f : Buf (Elt F) ((oW).view.loc (S0 d h))))) := by
  rw [row0_set, row1_set]
  have := pointsTo_union (ℓ := rowsLoc d) (q := fullShare) (f := f) (Ix := HIx 1) (Name := ℕ) (U := UU) (Lvl := ℕ) rows_disjoint
  rw [rows_cover] at this
  exact this

/-- The kernel on SparseCore 0's sequencer: its own memory and cells opened, `body_run`, and closed again. -/
theorem body₀ (hm : ∀ d, Lookup.RowsOK (m (xyLoc d))) (hF : (K (F := F)).Facts) (h : 0 < grid0.bound 0) (O : CellTallies nD τ sig (HIx 1))
    (W : Waits sig (HIx 1)) (hO : ∀ g, O g none = 0) :
    iprop(levAts (K (F := F)).L (K (F := F)).lev ∗ emp ∗ (∃ f, callPts m d f)
        ∗ scopedBufs (S0 d h) ∗ scopedSems0 (S0 d h) ∗ owes (S0 d h) O W)
      ⊢ wp frame (wpE (defs₀ (F := F)) 𝒱₀ (S0 d h) none) Set.univ
          (cc0__pe_lookup (coords ⟨0, h⟩) cW (Memref.isWhole_whole _) pxW (Memref.isWhole_whole _) pyW (Memref.isWhole_whole _)
            oW (Memref.isWhole_whole _) wW (Memref.isWhole_whole _) cc0_scratch1 cc0_scratch2 cc0_scoped0)
          fun _ => iprop(callPts m d (rowsV m d) ∗ scopedBufs (S0 d h) ∗ scopedSems0 (S0 d h)
            ∗ ∃ W', ⌜∀ p ∈ W', p ∈ W ∨ p.2 = none ∨ p.2 = some (0 : Fin 1)⌝ ∗ owes (S0 d h) O W') := by
  rw [(K (F := F)).scopedBufs_S hF d _, SparseCore.Cfg.scopedSems0_S (Val := Elt F) d _, ownSems0_three, ownBufs_words]
  iintro ⟨#Hlv, -, ⟨%fo, Hc, Hpx, Hpy, Ho⟩, ⟨⟨⟨%fw, Hw⟩, Hbufs⟩, Htiles⟩, ⟨⟨⟨Hs1, Hs2, Hs0⟩, Hsems⟩, HtileSems⟩, HO⟩
  ihave Hmw := ((K (F := F)).mayWaits_none (thr := S0 d h) hO) $$ Hlv
  ihave Hc' := (Entails.of_eq (pts_col (F := F) d _ _).symm) $$ Hc
  ihave Hpx' := (Entails.of_eq (pts_px (F := F) d _ _).symm) $$ Hpx
  ihave Hpy' := (Entails.of_eq (pts_py (F := F) d _ _).symm) $$ Hpy
  ihave Hw' := (Entails.of_eq (pts_words (F := F) d _ _).symm) $$ Hw
  ihave Ho' := (pts_rows (F := F) d h fo).1 $$ Ho
  icases Ho' with ⟨Hr0, Hr1⟩
  iapply (wp_wand_r Idealize.ShloMosaic.frame (wpE (defs₀ (F := F)) 𝒱₀ (S0 d h) none) Set.univ)
  isplitl [Hc' Hpx' Hpy' Hw' Hr0 Hr1 Hs0 Hs1 Hs2 HO]
  · iapply (body_run d h O W (m (xyLoc d)) (hm d) (m (pxLoc d)) (m (pyLoc d)) fo fw)
    isplitr; · iexact Hmw
    isplitl [Hc']; · iexact Hc'
    isplitl [Hpx']; · iexact Hpx'
    isplitl [Hpy']; · iexact Hpy'
    isplitl [Hr0]; · iexact Hr0
    isplitl [Hr1]; · iexact Hr1
    isplitl [Hw']; · iexact Hw'
    isplitl [Hs1]; · iexact Hs1
    isplitl [Hs2]; · iexact Hs2
    isplitl [Hs0]; · iexact Hs0
    iexact HO
  iintro %_ ⟨Hc, Hpx, Hpy, Hr0, Hr1, ⟨%fw', Hw⟩, Hs1, Hs2, Hs0, %W', HO⟩
  isplitl [Hc Hpx Hpy Hr0 Hr1]
  · isplitl [Hc]; · iapply (Entails.of_eq (pts_col (F := F) d _ _)); iexact Hc
    isplitl [Hpx]; · iapply (Entails.of_eq (pts_px (F := F) d _ _)); iexact Hpx
    isplitl [Hpy]; · iapply (Entails.of_eq (pts_py (F := F) d _ _)); iexact Hpy
    iapply (pts_rows (F := F) d h (rowsV m d)).2
    isplitl [Hr0]; · iexact Hr0
    iexact Hr1
  isplitl [Hw Hbufs Htiles]
  · isplitl [Hw Hbufs]
    · isplitl [Hw]; · iexists _; iapply (Entails.of_eq (pts_words (F := F) d _ _)); iexact Hw
      iexact Hbufs
    iexact Htiles
  isplitl [Hs0 Hs1 Hs2 Hsems HtileSems]
  · isplitl [Hs0 Hs1 Hs2 Hsems]
    · isplitl [Hs0 Hs1 Hs2]
      · isplitl [Hs1]; · iexact Hs1
        isplitl [Hs2]; · iexact Hs2
        iexact Hs0
      iexact Hsems
    iexact HtileSems
  iexists W'; isplitr
  · ipureintro; intro p _
    rcases p.2 with _ | q
    · exact .inr (.inl rfl)
    · exact .inr (.inr (congrArg some (Subsingleton.elim q 0)))
  · iexact HO

end Sequencer

/-! ## The launch theorem's obligation -/

theorem defs₀_scalar (c : Fin τ.nSC) :
    defs₀ (F := F) (.scScalar c) 0 ()
      = SparseCore.onCore hcore0 (fun c => cc0__pe_lookup (coords c) cW (Memref.isWhole_whole _) pxW (Memref.isWhole_whole _) pyW (Memref.isWhole_whole _)
          oW (Memref.isWhole_whole _) wW (Memref.isWhole_whole _) cc0_scratch1 cc0_scratch2 cc0_scoped0) ⟨⟩ c := rfl

theorem scalarObl (hm : ∀ d, Lookup.RowsOK (m (xyLoc d))) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body₀ m d hm facts h O W hO

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev xy' : DevRef τ sig := Proc.devRef .tc (main_arg0 : Ref sig .tc)
abbrev px' : DevRef τ sig := Proc.devRef .tc (main_arg1 : Ref sig .tc)
abbrev py' : DevRef τ sig := Proc.devRef .tc (main_arg2 : Ref sig .tc)
abbrev col' : DevRef τ sig := Proc.devRef .tc (main_v0 : Ref sig .tc)
abbrev rows' : DevRef τ sig := Proc.devRef .tc (main_v1 : Ref sig .tc)
abbrev out' : DevRef τ sig := Proc.devRef .tc (main_v2 : Ref sig .tc)
abbrev opIn : HloOp τ sig (Elt F) := StableHlo.reshape main_arg0 main_v0 (rfl : (.i32 : EltTy) = .i32) shapeCasts_S1x2_S2x1
abbrev opOut : HloOp τ sig (Elt F) := StableHlo.reshape main_v1 main_v2 (rfl : (.f32 : EltTy) = .f32) shapeCasts_S2x512_S1x1024

/-- The TensorCore's six arrays. -/
abbrev S6 : Finset (DevRef τ sig) := {xy', px', py', col', rows', out'}

omit [FloatOps F] in
theorem held_S6 (d : Dev nD) (W : Valuation τ sig (Elt F)) :
    (held (T d) S6 W : sProp 𝕄) = iprop((xyLoc d ↦{fullShare} W xy') ∗ (pxLoc d ↦{fullShare} W px') ∗ (pyLoc d ↦{fullShare} W py')
      ∗ (colLoc d ↦{fullShare} W col') ∗ (rowsLoc d ↦{fullShare} W rows') ∗ (outLoc d ↦{fullShare} W out')) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_six (d : Dev nD) (W : (b : Ref sig .tc) → Buf (Elt F) ((d.tc : Thread nD τ).loc b)) :
    (unscopedBufs d W : sProp 𝕄) = iprop((xyLoc d ↦{fullShare} W main_arg0) ∗ (pxLoc d ↦{fullShare} W main_arg1) ∗ (pyLoc d ↦{fullShare} W main_arg2)
      ∗ (colLoc d ↦{fullShare} W main_v0) ∗ (rowsLoc d ↦{fullShare} W main_v1) ∗ (outLoc d ↦{fullShare} W main_v2)) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The arrays at launch; after the first reshape; after the call; after the last reshape. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) rows' (rowsV m d)
def V3 (d : Dev nD) : Valuation τ sig (Elt F) := (opOut (F := F)).result (V2 m d)

theorem unscoped_held (d : Dev nD) : (unscopedBufs d (fun b => m ((SparseCore.T d).loc b)) : sProp 𝕄) = held (T d) S6 (V0 m d) := by
  rw [unscopedBufs_six, held_S6]; rfl

/-- The first reshape writes only the column, -/
theorem V1_of_ne (d : Dev nD) (b : DevRef τ sig) (hb : b ∉ ({col'} : Finset (DevRef τ sig))) : V1 m d b = m (d, b) :=
  (opIn (F := F)).result_of_not_mem (V0 m d) hb
theorem V1_col (d : Dev nD) : V1 m d col' = colV m d := StableHlo.reshape_result _ _ _ _ _ _ _
/-- the call only the rows, -/
theorem V2_of_ne (d : Dev nD) (b : DevRef τ sig) (hb : b ≠ rows') : V2 m d b = V1 m d b := Function.update_of_ne hb _ _
theorem V2_rows (d : Dev nD) : V2 m d rows' = rowsV m d := Function.update_self _ _ _
/-- and the last reshape only the result. -/
theorem V3_of_ne (d : Dev nD) (b : DevRef τ sig) (hb : b ∉ ({out'} : Finset (DevRef τ sig))) : V3 m d b = V2 m d b :=
  (opOut (F := F)).result_of_not_mem (V2 m d) hb
theorem V3_out (d : Dev nD) : V3 m d out' = outV m d :=
  (StableHlo.reshape_result _ _ _ _ _ _ _).trans (by rw [V2_rows]; rfl)

theorem V3_arg (d : Dev nD) (b : DevRef τ sig) (h1 : b ∉ ({col'} : Finset (DevRef τ sig))) (h2 : b ≠ rows') (h3 : b ∉ ({out'} : Finset (DevRef τ sig))) :
    V3 m d b = m (d, b) := (V3_of_ne m d b h3).trans ((V2_of_ne m d b h2).trans (V1_of_ne m d b h1))

/-- What @main leaves: the arguments as they were, and the result. -/
abbrev FIN (d : Dev nD) : sProp 𝕄 :=
  iprop((xyLoc d ↦{fullShare} m (xyLoc d)) ∗ (pxLoc d ↦{fullShare} m (pxLoc d)) ∗ (pyLoc d ↦{fullShare} m (pyLoc d)) ∗ (outLoc d ↦{fullShare} outV m d))

theorem held_V1 (d : Dev nD) :
    (held (T d) S6 ((opIn (F := F)).result (V0 m d)) : sProp 𝕄)
      = iprop((xyLoc d ↦{fullShare} m (xyLoc d)) ∗ (pxLoc d ↦{fullShare} m (pxLoc d)) ∗ (pyLoc d ↦{fullShare} m (pyLoc d))
        ∗ (colLoc d ↦{fullShare} colV m d) ∗ (rowsLoc d ↦{fullShare} m (rowsLoc d)) ∗ (outLoc d ↦{fullShare} m (outLoc d))) := by
  show held (T d) S6 (V1 m d) = _
  rw [held_S6, V1_of_ne m d xy' (by decide), V1_of_ne m d px' (by decide), V1_of_ne m d py' (by decide), V1_col, V1_of_ne m d rows' (by decide),
    V1_of_ne m d out' (by decide)]

theorem held_V2 (d : Dev nD) :
    (held (T d) S6 (V2 m d) : sProp 𝕄)
      = iprop((xyLoc d ↦{fullShare} m (xyLoc d)) ∗ (pxLoc d ↦{fullShare} m (pxLoc d)) ∗ (pyLoc d ↦{fullShare} m (pyLoc d))
        ∗ (colLoc d ↦{fullShare} colV m d) ∗ (rowsLoc d ↦{fullShare} rowsV m d) ∗ (outLoc d ↦{fullShare} m (outLoc d))) := by
  rw [held_S6, V2_of_ne m d xy' (by decide), V2_of_ne m d px' (by decide), V2_of_ne m d py' (by decide), V2_of_ne m d col' (by decide), V2_rows,
    V2_of_ne m d out' (by decide), V1_of_ne m d xy' (by decide), V1_of_ne m d px' (by decide), V1_of_ne m d py' (by decide), V1_col,
    V1_of_ne m d out' (by decide)]

theorem held_V3 (d : Dev nD) :
    (held (T d) S6 ((opOut (F := F)).result (V2 m d)) : sProp 𝕄)
      = iprop((xyLoc d ↦{fullShare} m (xyLoc d)) ∗ (pxLoc d ↦{fullShare} m (pxLoc d)) ∗ (pyLoc d ↦{fullShare} m (pyLoc d))
        ∗ (colLoc d ↦{fullShare} V3 m d col') ∗ (rowsLoc d ↦{fullShare} V3 m d rows') ∗ (outLoc d ↦{fullShare} outV m d)) := by
  show held (T d) S6 (V3 m d) = _
  rw [held_S6, V3_arg m d xy' (by decide) (by decide) (by decide), V3_arg m d px' (by decide) (by decide) (by decide),
    V3_arg m d py' (by decide) (by decide) (by decide), V3_out]

theorem st0_eq (d : Dev nD) : (bigSep Finset.univ fun c : Fin ((K (F := F)).nCore 0) => (P m).st 0 d c) = iprop(∃ f, callPts m d f) :=
  bigSep_univ_of_subsingleton (0 : Fin 1)
theorem dn0_eq (d : Dev nD) : (bigSep Finset.univ fun c : Fin ((K (F := F)).nCore 0) => (P m).dn 0 d c) = callPts m d (rowsV m d) :=
  bigSep_univ_of_subsingleton (0 : Fin 1)

theorem hIn : (opIn (F := F)).bufs ⊆ S6 := show ({xy', col'} : Finset (DevRef τ sig)) ⊆ S6 by decide
theorem hOut : (opOut (F := F)).bufs ⊆ S6 := show ({rows', out'} : Finset (DevRef τ sig)) ⊆ S6 by decide

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- the pair as a column
  iapply (wp_hlo_within 𝒱 (SparseCore.T d) none Set.univ (op := opIn) (S := S6) hIn (V := V0 m d)) $$ [Hb Hheld]
  · isplitl [Hb]; · iexact Hb
    iexact Hheld
  iintro ⟨Hb, Hheld⟩
  ihave Hh := (Entails.of_eq (held_V1 (F := F) m d)) $$ Hheld
  icases Hh with ⟨Hxy, Hpx, Hpy, Hc, Ho, Hr⟩
  rw [wp_ret]; imodintro
  -- the call
  iapply ((K (F := F)).wp_run (D (F := F)) 𝒱 (EH := EH) (P := P m) κ d 0) $$ [Hst Hxy Hpx Hpy Hc Ho Hb Hr Hts]
  isplitr; · iexact Hctx
  isplitl [Hst]; · iexact Hst
  isplitl [Hpx Hpy Hc Ho]
  · rw [st0_eq]
    iexists _
    isplitl [Hc]; · iexact Hc
    isplitl [Hpx]; · iexact Hpx
    isplitl [Hpy]; · iexact Hpy
    iexact Ho
  iintro ⟨Hst, Hdn⟩
  ihave Hdn' := (Entails.of_eq (dn0_eq m d)) $$ Hdn
  icases Hdn' with ⟨Hc, Hpx, Hpy, Ho⟩
  -- the rows end to end
  iapply (wp_hlo_within 𝒱 (SparseCore.T d) none Set.univ (op := opOut) (S := S6) hOut (V := V2 m d)) $$ [Hb Hxy Hpx Hpy Hc Ho Hr]
  · isplitl [Hb]; · iexact Hb
    rw [held_V2]
    isplitl [Hxy]; · iexact Hxy
    isplitl [Hpx]; · iexact Hpx
    isplitl [Hpy]; · iexact Hpy
    isplitl [Hc]; · iexact Hc
    isplitl [Ho]; · iexact Ho
    iexact Hr
  iintro ⟨Hb, Hheld⟩
  ihave Hh := (Entails.of_eq (held_V3 (F := F) m d)) $$ Hheld
  icases Hh with ⟨Hxy, Hpx, Hpy, -, -, Hr⟩
  rw [wp_ret]; imodintro; imodintro
  isplitl [Hst]; · iexact Hst
  isplitr [Hb Hts]
  · isplitl [Hxy]; · iexact Hxy
    isplitl [Hpx]; · iexact Hpx
    isplitl [Hpy]; · iexact Hpy
    iexact Hr
  isplitl [Hb] <;> iassumption

/-! ## The program's run -/

/-- The arguments are as they were and the result is the two rows end to end. -/
def Left (d : Dev nD) (mem : (ℓ : Loc nD τ sig) → Buf (Elt F) ℓ) : Prop :=
  mem (xyLoc d) = m (xyLoc d) ∧ mem (pxLoc d) = m (pxLoc d) ∧ mem (pyLoc d) = m (pyLoc d) ∧ mem (outLoc d) = outV m d

/-- An array held whole is read off the memory, and the memory kept. -/
theorem agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun i => h i (Finset.mem_univ i)
  iexact HSI

theorem hfin (d : Dev nD) (s' : Phys nD τ sig (Elt F)) : iprop(FIN m d ∗ SI s') ⊢ (⌜Left m d s'.mem.mem⌝ : sProp 𝕄) := by
  iintro ⟨⟨Hxy, Hpx, Hpy, Hr⟩, HSI⟩
  ihave H := (agree s' (xyLoc d) _) $$ [HSI Hxy]
  · isplitl [HSI] <;> iassumption
  icases H with ⟨%hxy, HSI⟩
  ihave H := (agree s' (pxLoc d) _) $$ [HSI Hpx]
  · isplitl [HSI] <;> iassumption
  icases H with ⟨%hpx, HSI⟩
  ihave H := (agree s' (pyLoc d) _) $$ [HSI Hpy]
  · isplitl [HSI] <;> iassumption
  icases H with ⟨%hpy, HSI⟩
  ihave H := (agree s' (outLoc d) _) $$ [HSI Hr]
  · isplitl [HSI] <;> iassumption
  icases H with ⟨%hr, -⟩
  ipureintro
  exact ⟨hxy, hpx, hpy, hr⟩

def QC : PUnit × MemSt nD τ sig (Elt F) → Prop := fun r => (∀ d : Dev nD, Left m d r.2.mem) ∧ r.2.sem = fun _ => 0

theorem run_main [∀ e, Nonempty (Elt F e)] (hm : ∀ d, Lookup.RowsOK (m (xyLoc d))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hm)
    (fun q hq => match q with | 0 => nomatch hq)
    (fun q hq => match q with | 0 => nomatch hq)
    m ρ main (fun _ => iprop(emp)) (FIN m) (u₀ (F := F)) (sep_elim_left.trans (hu₀ m)) (hmain m ρ) (fun d s' => Left m d s'.mem.mem) (hfin m) (QC m)
    (fun _ h hz => ⟨h, hz⟩)

end Cert.Proof.Run

end
-- ==== Proof.Take.lean ====
/-
  The reference's table lookup, `jnp.take` of one row of a table of `n` rows at a word.

  It wraps a negative word, gathers the row at the word clamped into the table, and puts NaN in place of the row when the
  word lay outside. At a word that names a row (read as a natural number, below `n`) each of these does nothing, and
  what it leaves is that row (`take_row`). No arithmetic of floats happens, so this holds of any contents.
-/
module

public import proofs.«01_k».proof.Proof.Lookup
public import Idealize.ShloMosaic.Lib.ReduceAll
public import Idealize.ShloMosaic.Lib.Affine

@[expose] public section

noncomputable section

namespace Cert.Proof.Take

open Cert.Proof
open Idealize.ShloMosaic Idealize.ShloMosaic.ValueIdx

variable {α : Type}

abbrev Sc : Shape := ⟨0, ![]⟩
abbrev So : Shape := ⟨1, ![1]⟩
abbrev Sr : Shape := ⟨1, ![512]⟩
abbrev St (n : Nat) : Shape := ⟨2, ![n, 512]⟩

/-- The dimension numbers of the gather of one whole row. -/
abbrev rowDims (n : Nat) (wf : GatherDims.WF (St n) So Sr [0] [0] [] [0] [] 0 ![1, 512]) : GatherDims (St n) So Sr where
  offsetDims := [0]
  collapsedSliceDims := [0]
  operandBatchingDims := []
  startIndicesBatchingDims := []
  startIndexMap := [0]
  indexVectorDim := 0
  sliceSizes := ![1, 512]
  wf := wf

/-- A slice starts at the row the index names, read signed and clamped. -/
theorem start_zero {n : Nat} (wf : GatherDims.WF (St n) So Sr [0] [0] [] [0] [] 0 ![1, 512]) (idx : IVec So 32) (y : Sr.Idx) :
    (rowDims n wf).start y idx (0 : Fin 2) = min (idx (ix1 0)).toInt.toNat (n - 1) := by
  refine (dif_pos (List.mem_singleton.mpr rfl)).trans ?_
  refine congrArg (fun k => min (idx k).toInt.toNat (n - 1)) (funext fun b => Fin.ext ?_)
  match b with
  | ⟨0, _⟩ => rfl

/-- It starts at the first column. -/
theorem start_one {n : Nat} (wf : GatherDims.WF (St n) So Sr [0] [0] [] [0] [] 0 ![1, 512]) (idx : IVec So 32) (y : Sr.Idx) :
    (rowDims n wf).start y idx (1 : Fin 2) = 0 :=
  dif_neg (show (1 : Fin 2) ∉ [(0 : Fin 2)] by decide)

/-- Within a slice the element's column is its own. -/
theorem offCoord_one {n : Nat} (wf : GatherDims.WF (St n) So Sr [0] [0] [] [0] [] 0 ![1, 512]) (y : Sr.Idx) :
    (rowDims n wf).offCoord y (1 : Fin 2) = (y 0).val :=
  (dif_pos ((GatherDims.mem_sKept _ _).mpr ⟨(show (1 : Fin 2) ∉ [(0 : Fin 2)] by decide), List.not_mem_nil⟩)).trans rfl

/-- The gather's element in column `y` is the table's, in the row the index names, read signed and clamped. -/
theorem gather_row {n : Nat} (hn : 0 < n) (wf : GatherDims.WF (St n) So Sr [0] [0] [] [0] [] 0 ![1, 512])
    (x : (St n).Idx → α) (idx : IVec So 32) (y : Sr.Idx) :
    Host.gather (rowDims n wf) x idx y = x (ix2 ⟨min (idx (ix1 0)).toInt.toNat (n - 1), by omega⟩ (y 0)) := by
  unfold Host.gather
  refine congrArg x ?_
  funext a
  apply Fin.ext
  show (rowDims n wf).start y idx a + (rowDims n wf).batchCoord y a + (rowDims n wf).offCoord y a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    exact start_zero wf idx y
  | ⟨1, _⟩ =>
    refine (congrArg (· + _) (start_one wf idx y)).trans ((Nat.zero_add _).trans ?_)
    exact offCoord_one wf y

/-- A word below a bound within the positive signed words reads the same signed. -/
theorem toInt_of_lt {w : BitVec 32} {n : Nat} (hw : w.toNat < n) (hn : n ≤ 2 ^ 31) : w.toInt = w.toNat :=
  BitVec.toInt_eq_toNat_of_lt (by omega)

/-- The index the lookup gathers at: the word, `c` added to it when it is negative. -/
abbrev wrapped (hb : Sc.BroadcastsInDim So ![]) (c : BitVec 32) (x : IVec Sc 32) : IVec So 32 :=
  broadcastInDim So ![] hb (select (cmpi .slt x (constantI Sc 32 0#32)) (addi x (constantI Sc 32 c)) x)

/-- At a word that names a row, it is the word. -/
theorem wrapped_apply (hb : Sc.BroadcastsInDim So ![]) (c : BitVec 32) (x : IVec Sc 32) (w : BitVec 32) (hx : x ix0 = w) {n : Nat}
    (hw : w.toNat < n) (hn : n ≤ 2 ^ 31) (j : So.Idx) : wrapped hb c x j = w := by
  refine (broadcastInDim_apply _ _ _ j ix0 (fun a => a.elim0)).trans ?_
  have h0 : (cmpi .slt x (constantI Sc 32 0#32)) ix0 = 0#1 := by
    refine eq_zero_of_ne_one fun h => ?_
    have h' := IntOp.cmpi_slt.mp (show IntOp.cmpi .slt (x ix0) 0#32 = 1#1 from h)
    rw [hx, toInt_of_lt hw hn] at h'
    exact absurd h' (Int.not_lt.mpr (Int.natCast_nonneg _))
  rw [select_apply, h0, select_zero, hx]

/-- The lookup at a word that names a row is that row. -/
theorem take_row {n : Nat} (hn : 0 < n) (hn' : n ≤ 2 ^ 31) (wf : GatherDims.WF (St n) So Sr [0] [0] [] [0] [] 0 ![1, 512])
    (hb : Sc.BroadcastsInDim So ![]) (hbr : Sc.BroadcastsInDim Sr ![]) (hr : So.ReducesTo [0] Sc) (hs : 0 < Sc.numel)
    (t : (St n).Idx → α) (nan : Sr.Idx → α) (c l : BitVec 32) (hl : l.toNat = n - 1)
    (x : IVec Sc 32) (w : BitVec 32) (hx : x ix0 = w) (hw : w.toNat < n) (y : Sr.Idx) :
    select (broadcastInDim Sr ![] hbr (Host.reduce IntOp.andi (andi (cmpi .sge (wrapped hb c x) (broadcastInDim So ![] hb (constantI Sc 32 0#32)))
        (cmpi .sle (wrapped hb c x) (constantI So 32 l))) (constantI Sc 1 1#1) hr hs))
      (Host.gather (rowDims n wf) t (wrapped hb c x)) nan y = t (ix2 (Lookup.rowOf n hn w) (y 0)) := by
  have hin : broadcastInDim Sr ![] hbr (Host.reduce IntOp.andi (andi (cmpi .sge (wrapped hb c x) (broadcastInDim So ![] hb (constantI Sc 32 0#32)))
      (cmpi .sle (wrapped hb c x) (constantI So 32 l))) (constantI Sc 1 1#1) hr hs) y = 1#1 := by
    refine (broadcastInDim_apply _ _ _ y ix0 (fun a => a.elim0)).trans ?_
    refine Host.reduce_andi_one _ _ hr hs ix0 rfl fun i => ?_
    refine IntOp.andi_eq_one.mpr ⟨IntOp.cmpi_sge.mpr ?_, IntOp.cmpi_sle.mpr ?_⟩
    · rw [wrapped_apply hb c x w hx hw hn' i, toInt_of_lt hw hn']
      show (0#32 : BitVec 32).toInt ≤ _
      simp
    · rw [wrapped_apply hb c x w hx hw hn' i, toInt_of_lt hw hn']
      show _ ≤ l.toInt
      rw [toInt_of_lt (show l.toNat < n by omega) hn']
      omega
  rw [select_apply, hin, select_one, gather_row hn]
  refine congrArg t ?_
  refine congrArg (fun r => ix2 r (y 0)) (Fin.ext ?_)
  show min (wrapped hb c x (ix1 0)).toInt.toNat (n - 1) = min w.toNat (n - 1)
  rw [wrapped_apply hb c x w hx hw hn', toInt_of_lt hw hn']
  rfl

end Cert.Proof.Take

end
-- ==== Proof.Reference.lean ====
/-
  The reference's result is `Lookup.result`: the two rows its lookups take, laid end to end.

  The reference slices each word out of the pair, looks up one row per table, joins the two and adds a leading axis; each
  step only moves elements. Its printed run gives the composed term, and `joined_eq` says what that term is. It is
  used twice, once per float operations the claims take (the exact ones and the printed ones).
-/
module

public import proofs.«01_k».proof.Proof.Take
public import proofs.«01_k».proof.Proof.Gen.ReferenceIdeal.Run
public import proofs.«01_k».proof.Proof.Gen.Reference.Run

@[expose] public section

noncomputable section

namespace Cert.Proof.Reference

open Cert.Proof
open Idealize.ShloMosaic Idealize.ShloMosaic.ValueIdx Idealize.ShloMosaic.TcCoe Idealize.SL.Sem

variable {α : Type}

abbrev Sp : Shape := ⟨2, ![1, 2]⟩
abbrev Sw : Shape := ⟨2, ![1, 1]⟩
abbrev Sj : Shape := ⟨1, ![1024]⟩
abbrev Sf : Shape := ⟨2, ![1, 1024]⟩

/-- The scalar cut out of the pair at column 0 is its first word, -/
theorem word_zero (xy : IVec Sp 32) (hs : Sp.Slices ![0, 0] Sw) (hc : Sw.ShapeCasts Take.Sc) :
    shapeCast Take.Sc (extractStridedSlice Sw ![0, 0] xy hs) hc ix0 = Lookup.wordX xy := by
  refine (shapeCast_apply _ hc ix0 (ix2 0 0 : Sw.Idx) (by rw [Shape.rowMajor_val_two]; rfl)).trans ?_
  refine extractStridedSlice_apply _ xy hs _ (ix2 0 0 : Sp.Idx) fun a => ?_
  match a with
  | ⟨0, _⟩ => rfl
  | ⟨1, _⟩ => rfl

/-- and at column 1 its second. -/
theorem word_one (xy : IVec Sp 32) (hs : Sp.Slices ![0, 1] Sw) (hc : Sw.ShapeCasts Take.Sc) :
    shapeCast Take.Sc (extractStridedSlice Sw ![0, 1] xy hs) hc ix0 = Lookup.wordY xy := by
  refine (shapeCast_apply _ hc ix0 (ix2 0 0 : Sw.Idx) (by rw [Shape.rowMajor_val_two]; rfl)).trans ?_
  refine extractStridedSlice_apply _ xy hs _ (ix2 0 1 : Sp.Idx) fun a => ?_
  match a with
  | ⟨0, _⟩ => rfl
  | ⟨1, _⟩ => rfl

/-- Column `k` of the kernel's result: `pe_x`'s row up to column 512, `pe_y`'s from there on. -/
theorem result_left (xy : IVec Sp 32) (px : (Take.St 1920).Idx → α) (py : (Take.St 1080).Idx → α) (j : Sf.Idx) (k : Fin 512)
    (hk : (j 1).val = k.val) : Lookup.result xy px py j = px (ix2 (Lookup.rowOf 1920 (by decide) (Lookup.wordX xy)) k) := by
  have hj : (j 0).val = 0 := by have := idx2_lt0 j; omega
  exact (shapeCast_apply _ _ j (ix2 0 k : (⟨2, ![2, 512]⟩ : Shape).Idx) (by
    rw [Shape.rowMajor_val_two, Shape.rowMajor_val_two]
    show 0 * 512 + k.val = (j 0).val * 1024 + (j 1).val
    omega)).trans (if_pos rfl)

theorem result_right (xy : IVec Sp 32) (px : (Take.St 1920).Idx → α) (py : (Take.St 1080).Idx → α) (j : Sf.Idx) (k : Fin 512)
    (hk : (j 1).val = 512 + k.val) : Lookup.result xy px py j = py (ix2 (Lookup.rowOf 1080 (by decide) (Lookup.wordY xy)) k) := by
  have hj : (j 0).val = 0 := by have := idx2_lt0 j; omega
  exact (shapeCast_apply _ _ j (ix2 1 k : (⟨2, ![2, 512]⟩ : Shape).Idx) (by
    rw [Shape.rowMajor_val_two, Shape.rowMajor_val_two]
    show 1 * 512 + k.val = (j 0).val * 1024 + (j 1).val
    omega)).trans (if_neg (by show ¬ (1 = 0); omega))

/-- Two rows joined and given a leading axis are the result, when they are the rows at the pair's two words. -/
theorem joined_eq (xy : IVec Sp 32) (px : (Take.St 1920).Idx → α) (py : (Take.St 1080).Idx → α) (a b : Take.Sr.Idx → α)
    (hc : Shape.Concatenates [Take.Sr, Take.Sr] Sj 0) (hb : Sj.BroadcastsInDim Sf ![1])
    (ha : ∀ y : Take.Sr.Idx, a y = px (ix2 (Lookup.rowOf 1920 (by decide) (Lookup.wordX xy)) (y 0)))
    (hb' : ∀ y : Take.Sr.Idx, b y = py (ix2 (Lookup.rowOf 1080 (by decide) (Lookup.wordY xy)) (y 0))) :
    broadcastInDim Sf ![1] hb (concatenate Sj 0 [⟨Take.Sr, a⟩, ⟨Take.Sr, b⟩] hc) = Lookup.result xy px py := by
  funext j
  have hlt : (j 1).val < 1024 := idx2_lt1 j
  refine (broadcastInDim_apply _ hb _ j (ix1 (j 1) : Sj.Idx) fun c => ?_).trans ?_
  · match c with
    | ⟨0, _⟩ => rfl
  by_cases h : (j 1).val < 512
  · refine (concatenate_pair_apply_left _ a b hc _ rfl (ix1 ⟨(j 1).val, h⟩ : Take.Sr.Idx) fun c => ?_).trans ?_
    · match c with
      | ⟨0, _⟩ => rfl
    · exact (ha _).trans (result_left xy px py j ⟨(j 1).val, h⟩ rfl).symm
  · refine (concatenate_pair_apply_right _ a b hc _ rfl rfl (ix1 ⟨(j 1).val - 512, by omega⟩ : Take.Sr.Idx) (fun c hne => ?_) ?_).trans ?_
    · match c with
      | ⟨0, _⟩ => exact absurd rfl hne
    · show (j 1).val - 512 + 512 = (j 1).val
      omega
    · exact (hb' _).trans (result_right xy px py j ⟨(j 1).val - 512, by omega⟩ (by show (j 1).val = 512 + ((j 1).val - 512); omega)).symm

variable {F : FTy → Type} [FloatOps F]

/-- The idealized reference runs, and leaves the result of the pair and the two tables. -/
theorem ideal_run (m : (ℓ : Loc Cert.ReferenceIdeal.nD Cert.ReferenceIdeal.τ Cert.ReferenceIdeal.sig) → Buf (Elt F) ℓ)
    (ρ : Dev Cert.ReferenceIdeal.nD → PrngReg)
    (hm : ∀ c : Dev Cert.ReferenceIdeal.nD, Lookup.RowsOK (m ((c.tc : Thread Cert.ReferenceIdeal.nD Cert.ReferenceIdeal.τ).loc Cert.ReferenceIdeal.main_arg0))) :
    θ_run (Cert.ReferenceIdeal.defs (F := F)) (onTc (τ := Cert.ReferenceIdeal.τ) (Cert.ReferenceIdeal.main (F := F))) ⟨m, fun _ => 0, ρ⟩
      fun r => ∀ c : Dev Cert.ReferenceIdeal.nD,
        r.2.mem ((c.tc : Thread Cert.ReferenceIdeal.nD Cert.ReferenceIdeal.τ).loc Cert.ReferenceIdeal.main_v7)
          = Lookup.result (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2) :=
  (θ_run Cert.ReferenceIdeal.defs _ _).mono (fun _ h c => ⟨(h c).1.trans (joined_eq _ _ _ _ _ _ _
      (fun y => Take.take_row (by decide) (by decide) Cert.ReferenceIdeal.Gen.gather_S1920x512_S1_S512_0_0_n_n_0_0_1512_wf _ _ _ _ _ _ _ _ rfl _ _
        (word_zero _ _ _) (hm c).1 y)
      (fun y => Take.take_row (by decide) (by decide) Cert.ReferenceIdeal.Gen.gather_S1080x512_S1_S512_0_0_n_n_0_0_1512_wf _ _ _ _ _ _ _ _ rfl _ _
        (word_one _ _ _) (hm c).2 y)), (h c).2⟩)
    (Cert.ReferenceIdeal.Value.run m ρ)

/-- So does the reference as it is printed. -/
theorem printed_run (m : (ℓ : Loc Cert.Reference.nD Cert.Reference.τ Cert.Reference.sig) → Buf (Elt F) ℓ)
    (ρ : Dev Cert.Reference.nD → PrngReg)
    (hm : ∀ c : Dev Cert.Reference.nD, Lookup.RowsOK (m ((c.tc : Thread Cert.Reference.nD Cert.Reference.τ).loc Cert.Reference.main_arg0))) :
    θ_run (Cert.Reference.defs (F := F)) (onTc (τ := Cert.Reference.τ) (Cert.Reference.main (F := F))) ⟨m, fun _ => 0, ρ⟩
      fun r => ∀ c : Dev Cert.Reference.nD,
        r.2.mem ((c.tc : Thread Cert.Reference.nD Cert.Reference.τ).loc Cert.Reference.main_v7)
          = Lookup.result (m ((c.tc : Thread Cert.Reference.nD Cert.Reference.τ).loc Cert.Reference.main_arg0))
              (m ((c.tc : Thread Cert.Reference.nD Cert.Reference.τ).loc Cert.Reference.main_arg1))
              (m ((c.tc : Thread Cert.Reference.nD Cert.Reference.τ).loc Cert.Reference.main_arg2))
        ∧ r.2.mem ((c.tc : Thread Cert.Reference.nD Cert.Reference.τ).loc Cert.Reference.main_arg0)
            = m ((c.tc : Thread Cert.Reference.nD Cert.Reference.τ).loc Cert.Reference.main_arg0)
        ∧ r.2.mem ((c.tc : Thread Cert.Reference.nD Cert.Reference.τ).loc Cert.Reference.main_arg1)
            = m ((c.tc : Thread Cert.Reference.nD Cert.Reference.τ).loc Cert.Reference.main_arg1)
        ∧ r.2.mem ((c.tc : Thread Cert.Reference.nD Cert.Reference.τ).loc Cert.Reference.main_arg2)
            = m ((c.tc : Thread Cert.Reference.nD Cert.Reference.τ).loc Cert.Reference.main_arg2) :=
  (θ_run Cert.Reference.defs _ _).mono (fun _ h c => ⟨(h c).1.trans (joined_eq _ _ _ _ _ _ _
      (fun y => Take.take_row (by decide) (by decide) Cert.Reference.Gen.gather_S1920x512_S1_S512_0_0_n_n_0_0_1512_wf _ _ _ _ _ _ _ _ rfl _ _
        (word_zero _ _ _) (hm c).1 y)
      (fun y => Take.take_row (by decide) (by decide) Cert.Reference.Gen.gather_S1080x512_S1_S512_0_0_n_n_0_0_1512_wf _ _ _ _ _ _ _ _ rfl _ _
        (word_one _ _ _) (hm c).2 y)), (h c).2⟩)
    (Cert.Reference.Value.run m ρ)

end Cert.Proof.Reference

end
-- ==== Proof.Pre.lean ====
/-
  What the precondition says: both words lie in [0, 1080), so each names a row of its table.
-/
module

public import proofs.«01_k».proof.Proof.Lookup
public import proofs.«01_k».proof.Proof.Gen.Pre_in_range
public import Idealize.ShloMosaic.Lib.ReduceAll
public import Idealize.ShloMosaic.Lib.Affine

@[expose] public section

noncomputable section

namespace Cert.Proof.Pre

open Cert.Proof Cert.Pre_in_range Cert.Pre_in_range.Gen
open Idealize.ShloMosaic Idealize.ShloMosaic.ValueIdx

/-- A word that is at least 0 and below 1080, read signed, is below 1080 read unsigned. -/
theorem toNat_lt {w : BitVec 32} (h0 : (0#32 : BitVec 32).toInt ≤ w.toInt) (h1 : w.toInt < (1080#32 : BitVec 32).toInt) : w.toNat < 1080 := by
  have e0 : (0#32 : BitVec 32).toInt = 0 := by decide
  have e1 : (1080#32 : BitVec 32).toInt = 1080 := by decide
  have hw := BitVec.toInt_eq_toNat_cond w
  rw [e0] at h0
  rw [e1] at h1
  split at hw <;> omega

variable {F : FTy → Type} [FloatOps F]

/-- The precondition at one place of the pair. -/
theorem word_lt (xy : IVec S1x2 32) (px : FVec F S1920x512 .f32) (py : FVec F S1080x512 .f32)
    (h : Cert.Pre_in_range.fn xy px py = fun _ => 1#1) (i : S1x2.Idx) : (xy i).toNat < 1080 := by
  haveI : Subsingleton S_.Idx := ⟨fun a b => funext fun k => k.elim0⟩
  have hi := Host.reduce_andi_all _ _ _ _ ix0 (congrFun h ix0) i
  obtain ⟨hlo, hhi⟩ := IntOp.andi_eq_one.mp hi
  exact toNat_lt (IntOp.cmpi_sge.mp hlo) (IntOp.cmpi_slt.mp hhi)

theorem rowsOK (xy : IVec S1x2 32) (px : FVec F S1920x512 .f32) (py : FVec F S1080x512 .f32)
    (h : Cert.Pre_in_range.fn xy px py = fun _ => 1#1) : Lookup.RowsOK xy :=
  ⟨Nat.lt_trans (word_lt xy px py h (ix2 0 0)) (by decide), word_lt xy px py h (ix2 0 1)⟩

end Cert.Proof.Pre

end
-- ==== Proof.lean ====
/-
  The certificate's claims, put together.

  The run of the program is written once (Proof/Run.lean), at any float operations: it gives both frames, and with the
  reference's run (Proof/Reference.lean) both value claims, since each side ends at `Lookup.result` of the arguments.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_in_range
public import proofs.«01_k».proof.Proof.Gen.Reference.Run
public import proofs.«01_k».proof.Proof.Gen.ReferenceIdeal.Run
public import proofs.«01_k».proof.Proof.Run
public import proofs.«01_k».proof.Proof.Reference
public import proofs.«01_k».proof.Proof.Pre
public import Idealize.ShloMosaic.Adequacy
public import Idealize.ShloMosaic.Init

@[expose] public section

noncomputable section

namespace Cert.Proof

open Idealize.ShloMosaic Idealize.SL.Sem

/-- The kernel as printed runs, and changes no argument. -/
theorem frame_printed : Cert.quiescent_Kernel := fun m g hp =>
  (θ_run Cert.KernelIdeal.defs _ _).mono (fun _ h => ⟨fun c => (h.1 c).imp id fun k => k.imp id fun l => l.1, h.2⟩)
    (Run.run_main (F := Bits) m g fun d => Pre.rowsOK _ _ _ (hp d))

/-- So does the idealized one. -/
theorem frame_ideal : Cert.quiescent_KernelIdeal := fun m g hp =>
  (θ_run Cert.KernelIdeal.defs _ _).mono (fun _ h => ⟨fun c => (h.1 c).imp id fun k => k.imp id fun l => l.1, h.2⟩)
    (Run.run_main (F := Ideal) m g fun d => Pre.rowsOK _ _ _ (hp d))

/-- The references run at any arguments: they launch no kernel and have no semaphores. -/
theorem frame_reference_ideal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)
theorem frame_reference : Cert.quiescent_Reference := fun m g _ =>
  (θ_run Cert.Reference.defs _ _).mono (fun r h => ⟨fun c => (h c).2, sem_eq_zero_of_no_sems (by decide) r.2⟩)
    (Cert.Reference.Value.run (F := Bits) m g)

/-- The idealized kernel and the idealized reference end at one result. -/
theorem values_ideal : Cert.algebraic_KernelIdeal_ReferenceIdeal := fun m g m' g' hp hm =>
  have hk : ∀ d, Lookup.RowsOK (m (Run.xyLoc d)) := fun d => Pre.rowsOK _ _ _ (hp d)
  ⟨fun c => Run.outV m c,
    (θ_run Cert.KernelIdeal.defs _ _).mono (fun _ h c => ⟨(h.1 c).2.2.2, (h.1 c).1, (h.1 c).2.1, (h.1 c).2.2.1⟩) (Run.run_main (F := Ideal) m g hk),
    (θ_run Cert.ReferenceIdeal.defs _ _).mono (fun _ h c => ⟨(h c).1.trans (by rw [(hm c).1, (hm c).2.1, (hm c).2.2]; rfl), (h c).2⟩)
      (Reference.ideal_run (F := Ideal) m' g' fun c => by rw [(hm c).1]; exact hk c)⟩

/-- And bit for bit the kernel and the reference as printed. -/
theorem values_printed : Cert.bitexact_Kernel_Reference := fun m g m' g' hp hm =>
  have hk : ∀ d, Lookup.RowsOK (m (Run.xyLoc d)) := fun d => Pre.rowsOK _ _ _ (hp d)
  ⟨fun c => Run.outV (F := Bits) m c,
    (θ_run Cert.KernelIdeal.defs _ _).mono (fun _ h c => ⟨(h.1 c).2.2.2, (h.1 c).1, (h.1 c).2.1, (h.1 c).2.2.1⟩) (Run.run_main (F := Bits) m g hk),
    (θ_run Cert.Reference.defs _ _).mono (fun _ h c => ⟨(h c).1.trans (by rw [(hm c).1, (hm c).2.1, (hm c).2.2]; rfl), (h c).2⟩)
      (Reference.printed_run (F := Bits) m' g' fun c => by rw [(hm c).1]; exact hk c)⟩

theorem claim : Cert.Claim :=
  ⟨Cert.Kernel.Gen.facts, Cert.KernelIdeal.Gen.facts, Cert.ReferenceIdeal.Gen.facts, Cert.Reference.Gen.facts, Cert.Pre_in_range.Gen.facts,
    frame_printed, frame_ideal, frame_reference_ideal, fun m g _ => frame_reference_ideal m g trivial, frame_reference, trivial,
    values_ideal, values_printed⟩

end Cert.Proof

end
